-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8 : Shape := ⟨2, ![4, 8]⟩
abbrev S4x3 : Shape := ⟨2, ![4, 3]⟩
abbrev S_ : Shape := ⟨0, ![]⟩
abbrev S1x1 : Shape := ⟨2, ![1, 1]⟩

abbrev nBuf : Table → Nat
  | .hbm => 2
  | .local .scScalar .smem => 2
  | _ => 0

abbrev bufTy : (tb : Table) → Fin (nBuf tb) → BufTy
  | .hbm, ⟨0, _⟩ => ⟨S4x8, .f32⟩
  | .hbm, ⟨1, _⟩ => ⟨S4x3, .f32⟩
  | .local .scScalar .smem, ⟨0, _⟩ => ⟨S4x8, .f32⟩
  | .local .scScalar .smem, ⟨1, _⟩ => ⟨S4x3, .f32⟩
  | _, _ => ⟨S4x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev cc0_scratch0 : Ref sig .scScalar := ⟨.smem, 0, rfl⟩
abbrev cc0_scratch1 : Ref sig .scScalar := ⟨.smem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8 : Shape := ⟨2, ![4, 8]⟩
abbrev S4x3 : Shape := ⟨2, ![4, 3]⟩
abbrev S_ : Shape := ⟨0, ![]⟩
abbrev S4x3x1 : Shape := ⟨3, ![4, 3, 1]⟩
abbrev S1 : Shape := ⟨1, ![1]⟩
abbrev S1x1x1 : Shape := ⟨3, ![1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x8, .f32⟩
  | .hbm, ⟨1, _⟩ => ⟨S4x3, .i32⟩
  | .hbm, ⟨2, _⟩ => ⟨S_, .i32⟩
  | .hbm, ⟨3, _⟩ => ⟨S4x3, .i32⟩
  | .hbm, ⟨4, _⟩ => ⟨S4x3, .i1⟩
  | .hbm, ⟨5, _⟩ => ⟨S_, .i32⟩
  | .hbm, ⟨6, _⟩ => ⟨S4x3, .i32⟩
  | .hbm, ⟨7, _⟩ => ⟨S4x3, .i32⟩
  | .hbm, ⟨8, _⟩ => ⟨S4x3, .i32⟩
  | .hbm, ⟨9, _⟩ => ⟨S4x3x1, .i32⟩
  | .hbm, ⟨10, _⟩ => ⟨S1, .i32⟩
  | .hbm, ⟨11, _⟩ => ⟨S_, .i32⟩
  | .hbm, ⟨12, _⟩ => ⟨S4x3x1, .i32⟩
  | .hbm, ⟨13, _⟩ => ⟨S4x3x1, .i1⟩
  | .hbm, ⟨14, _⟩ => ⟨S1x1x1, .i32⟩
  | .hbm, ⟨15, _⟩ => ⟨S4x3x1, .i32⟩
  | .hbm, ⟨16, _⟩ => ⟨S4x3x1, .i1⟩
  | .hbm, ⟨17, _⟩ => ⟨S4x3x1, .i1⟩
  | .hbm, ⟨18, _⟩ => ⟨S_, .i1⟩
  | .hbm, ⟨19, _⟩ => ⟨S4x3, .i1⟩
  | .hbm, ⟨20, _⟩ => ⟨S4x3, .f32⟩
  | .hbm, ⟨21, _⟩ => ⟨S_, .f32⟩
  | .hbm, ⟨22, _⟩ => ⟨S4x3, .f32⟩
  | .hbm, ⟨23, _⟩ => ⟨S4x3, .f32⟩
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]
-- ==== Proof.Take.lean ====
/-
  The mathematics of the problem: `take_along_axis` along the second axis at the constant columns
  `[[2, 7, 0], [5, 6, 3], [4, 0, 5], [1, 5, 6]]`, as a function of a 4 × 8 array of any type.
-/
module

public import proofs.«01_k».proof.Defs

@[expose] public section

noncomputable section

namespace Cert.Proof

open Idealize.ShloMosaic

/-- The column of the input that the result takes at row `r`, position `j`. -/
abbrev col (r : Fin 4) (j : Fin 3) : Fin 8 :=
  (![![2, 7, 0], ![5, 6, 3], ![4, 0, 5], ![1, 5, 6]] : Fin 4 → Fin 3 → Fin 8) r j

/-- The place of the input that the result takes at the place `i`: the same row, the column of the table. -/
def src (i : (⟨2, ![4, 3]⟩ : Shape).Idx) : (⟨2, ![4, 8]⟩ : Shape).Idx := fun a =>
  match a with
  | ⟨0, _⟩ => i 0
  | ⟨1, _⟩ => col (i 0) (i 1)

/-- The gathered array: at each place the input's element at `src`. -/
def taken {α : Type} (x : (⟨2, ![4, 8]⟩ : Shape).Idx → α) : (⟨2, ![4, 3]⟩ : Shape).Idx → α := fun i => x (src i)

end Cert.Proof

end
-- ==== Proof.Body.lean ====
/-
  The kernel on the sequencer of SparseCore 0, at any float values `F`: the transfer of `x` into scalar memory and its
  wait, the twelve word copies between the two scalar-memory buffers, the transfer of the second buffer to the result
  and its wait. It ends with the result array at the gathered array (`taken`).
-/
module

public import proofs.«01_k».proof.Proof.Take
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore

@[expose] public section

noncomputable section

namespace Cert.Proof

open Cert.KernelIdeal Cert.KernelIdeal.Gen
open Idealize.ShloMosaic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The user algebra: the launch handshakes' rounds beside the transfers' counters. -/
abbrev UU : Type := URounds (GSem nD τ sig) ℕ × Counters

local notation "𝕄" => MT nD τ sig (HIx 1) (Elt F) ℕ UU ℕ

/-- The sequencer's names of the argument, the result, and the two scalar-memory buffers. -/
abbrev xW : Memref sig .scScalar .hbm S4x8 .f32 := Memref.whole main_arg0_scs
abbrev oW : Memref sig .scScalar .hbm S4x3 .f32 := Memref.whole main_v0_scs
abbrev inW : Memref sig .scScalar .smem S4x8 .f32 := Memref.whole cc0_scratch0
abbrev outW : Memref sig .scScalar .smem S4x3 .f32 := Memref.whole cc0_scratch1

/-- The sequencer's thread, and the two transfer semaphores of the body. -/
abbrev seq (d : Dev nD) : Thread nD τ := S d ((⟨0, Nat.one_pos⟩ : Fin (grid0.bound 0)).castLE hcore0)
abbrev sem₀ : SemLoc sig := .dma cc0_scoped0.sem
abbrev sem₁ : SemLoc sig := .dma cc0_scoped1.sem

/-- The one point of the kernel's grid. -/
def point (c : Fin (grid0.bound 0)) : grid0.Coords := fun
  | 0 => c
  | ⟨_ + 1, h⟩ => absurd h (Nat.not_lt.2 (Nat.le_add_left _ _))

variable [FloatOps F]

/-- The place `[a, b]` of the second scalar-memory buffer, as the rectangle of one element that a store names. -/
abbrev cell (a b : Nat) (h : ∀ c, (![a, b] : Fin 2 → Nat) c + S1x1.size c ≤ S4x3.size c := by decide) : Rect S4x3 :=
  Rect.unit ![a, b] S1x1.size h

/-- The rectangles of the twelve stores, the last one first. -/
abbrev cells : List (Rect S4x3) :=
  [cell 3 2, cell 3 1, cell 3 0, cell 2 2, cell 2 1, cell 2 0, cell 1 2, cell 1 1, cell 1 0, cell 0 2, cell 0 1, cell 0 0]

/-- They name every place of the buffer. -/
theorem covered : ∀ i : S4x3.Idx, ∃ r ∈ cells, i ∈ r.set := by
  decide

/-- If the twelve stores wrote at each place of the second scalar-memory buffer the element of `x` that the place takes,
the buffer reads as the gathered array, whatever it held before. -/
theorem stored (x : S4x8.Idx → Elt F .f32) (g : outW.view.ty.Contents (Elt F)) (L : List (View.Piece (Elt F) S4x3 .f32))
    (hL : L.map (·.1) = cells) (hx : ∀ p ∈ L, ∀ y : p.1.shape.Idx, p.2 y = taken x (p.1.emb y)) :
    outW.view.read (Elt F) (outW.view.writes (Elt F) g L) = taken x := by
  funext i
  obtain ⟨r, hr, hi⟩ := covered i
  obtain ⟨p, hp, rfl⟩ := List.mem_map.mp (hL ▸ hr)
  exact View.read_writes_apply_of_pieces outW.view g (taken x) L hx i ⟨p, hp, hi⟩

/-- A word read from the first scalar-memory buffer, once the whole of `x` has been copied into it, is the element of
`x` at the place read. -/
theorem word (x : S4x8.Idx → Elt F .f32) (f : inW.view.ty.Contents (Elt F)) (r : LoadRect S4x8) (j : r.shape.Idx) :
    View.readAt (Elt F) inW.view r (View.write (Elt F) inW.view f x Finset.univ) j = x (r.idx j) := by
  rw [show View.write (Elt F) inW.view f x Finset.univ = x from View.write_whole_univ cc0_scratch0 f x]
  rfl

/-- The one place of the input that a load of column `c` of row `a` names is the place that the result takes at
`[a, b]`, when `c` is the table's column there. -/
theorem place {a b c : Nat} (ha : a < 4) (hb : b < 3) (hc : (col ⟨a, ha⟩ ⟨b, hb⟩).val = c)
    (h₁ : ∀ e, (![a, c] : Fin 2 → Nat) e + S1x1.size e ≤ S4x8.size e)
    (h₂ : ∀ e, (![a, b] : Fin 2 → Nat) e + S1x1.size e ≤ S4x3.size e)
    (h₃ : 0 < (Rect.unit (s := S4x8) ![a, c] S1x1.size h₁).toLoadRect.shape.numel)
    (y : (Rect.unit (s := S4x3) ![a, b] S1x1.size h₂).shape.Idx) :
    (Rect.unit (s := S4x8) ![a, c] S1x1.size h₁).toLoadRect.idx (Shape.Idx.first h₃)
      = src ((Rect.unit (s := S4x3) ![a, b] S1x1.size h₂).emb y) := by
  have e₀ : (Rect.unit (s := S4x3) ![a, b] S1x1.size h₂).emb y = fun e => match e with
      | ⟨0, _⟩ => ⟨a, ha⟩
      | ⟨1, _⟩ => ⟨b, hb⟩ := by
    have y₀ : (y 0).val = 0 := Nat.lt_one_iff.mp (y 0).isLt
    have y₁ : (y 1).val = 0 := Nat.lt_one_iff.mp (y 1).isLt
    refine Rect.emb_eq_of_coords _ _ _ fun e => ?_
    fin_cases e
    · show a = a + 1 * (y 0).val
      omega
    · show b = b + 1 * (y 1).val
      omega
  rw [e₀]
  funext e
  refine Fin.ext ?_
  fin_cases e
  · rfl
  · exact hc.symm

/-- The kernel's body on the sequencer: from the argument at `x`, the result and the two scalar-memory buffers at
anything, and both transfer semaphores at zero, it ends with the argument still at `x`, the result at the gathered
array, the buffers at something, and both semaphores at zero again. -/
theorem seq_run (d : Dev nD) (O : CellTallies nD τ sig (HIx 1)) (W : Waits sig (HIx 1))
    (x : Buf (Elt F) (xW.view.loc (seq d))) (o : Buf (Elt F) (oW.view.loc (seq d)))
    (f : Buf (Elt F) (inW.view.loc (seq d))) (g : Buf (Elt F) (outW.view.loc (seq d))) :
    (iprop(Transfers.MayWaits (seq d) (none : HIx 1) O
        ∗ (xW.view.loc (seq d) ↦{fullShare} x) ∗ (oW.view.loc (seq d) ↦{fullShare} o)
        ∗ (inW.view.loc (seq d) ↦{fullShare} f) ∗ (outW.view.loc (seq d) ↦{fullShare} g)
        ∗ semVal (seq d, sem₀) 0 ∗ semVal (seq d, sem₁) 0 ∗ owes (seq d) O W) : sProp 𝕄)
      ⊢ wp frame (wpE (defs₀ (F := F)) Variants.none (seq d) none) Set.univ
          (cc0__body (point ⟨0, Nat.one_pos⟩) xW (Memref.isWhole_whole _) oW (Memref.isWhole_whole _)
            inW (Memref.isWhole_whole _) outW (Memref.isWhole_whole _) cc0_scoped0 cc0_scoped1)
          fun _ => iprop((xW.view.loc (seq d) ↦{fullShare} x) ∗ (oW.view.loc (seq d) ↦{fullShare} taken x)
            ∗ (∃ f, inW.view.loc (seq d) ↦{fullShare} f) ∗ (∃ g, outW.view.loc (seq d) ↦{fullShare} g)
            ∗ semVal (seq d, sem₀) 0 ∗ semVal (seq d, sem₁) 0 ∗ ∃ W', owes (seq d) O W') := by
  iintro ⟨#Hmw, Hx, Ho, Hin, Hout, Hs₀, Hs₁, HO⟩
  sl_unfold [cc0__body]
  sl_exec
  sl_step
  have hv : View.write (Elt F) oW.view o (seq_run.sl.dma36 d x f g) Finset.univ = taken x := by
    rw [View.write_whole_univ]
    unfold seq_run.sl.dma36 seq_run.sl.Hout_12
    refine stored x g _ rfl ?_
    simp only [List.forall_mem_cons, List.not_mem_nil, false_imp_iff, implies_true, and_true]
    refine ⟨?_, ?_, ?_, ?_, ?_, ?_, ?_, ?_, ?_, ?_, ?_, ?_⟩ <;> intro y
    all_goals
      refine (word x f _ _).trans (congrArg x ?_)
      refine place ?_ ?_ ?_ _ _ _ y
      · decide
      · decide
      · rfl
  isplitl [Hx]; · iexact Hx
  isplitl [Ho]
  · irw [← hv]
    iexact Ho
  isplitl [Hin]; · iexists _; iexact Hin
  isplitl [Hout]; · iexists _; iexact Hout
  isplitl [Hs₀]; · iexact Hs₀
  isplitl [Hs₁]; · iexact Hs₁
  iexists _; iexact HO

end Cert.Proof

end
-- ==== Proof.Launch.lean ====
/-
  The whole kernel program at any float values `F`: the TensorCore starts the one call, SparseCore 0's sequencer runs
  the body (`seq_run`), and the program ends with the result at the gathered array, the argument unchanged and every
  semaphore at zero.
-/
module

public import proofs.«01_k».proof.Proof.Body

@[expose] public section

noncomputable section

namespace Cert.Proof

open Cert.KernelIdeal Cert.KernelIdeal.Gen
open Idealize.ShloMosaic
open Idealize.ShloMosaic.SparseCore (S)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem takes it -/

abbrev labels : Labels := Pipeline.Sig Λ₀ (Fin 0) fun p => (pcfgs (F := F) p).Adm
abbrev K : SparseCore.Cfg τ sig (labels (F := F)) 1 := sc (F := F)
abbrev D [FloatOps F] : Defs nD τ sig (Elt F) (labels (F := F)) := Pipeline.defs pcfgs defs₀
abbrev variants : Variants := Variants.none.lift

/-- The launch semaphores are distinct and belong to no kernel, and no buffer is shared between tiles. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The launch handshakes' rounds, the left factor of the user algebra. -/
abbrev EH : Emb (URounds (GSem nD τ sig) ℕ) (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

/-- What the result ends holding: the gathered array of what the argument held at the start. -/
abbrev out (d : Dev nD) : Buf (Elt F) (oLoc d) := taken (m (xLoc d))

variable [FloatOps F]

/-- The argument whole, as it was at the start; the result whole at `f`. -/
abbrev xPts (d : Dev nD) : sProp 𝕄 := xLoc d ↦{fullShare} m (xLoc d)
abbrev oPts (d : Dev nD) (f : Buf (Elt F) (oLoc d)) : sProp 𝕄 := oLoc d ↦{fullShare} f

/-- What the call hands the sequencer, the argument and the result at anything, and what comes back, the argument
unchanged and the result at the gathered array. -/
def P : (K (F := F)).Pay (nD := nD) (Val := Elt F) (Name := ℕ) (U := UU) where
  st := fun _ d _ => iprop(xPts m d ∗ ∃ f, oPts d f)
  dn := fun _ d _ => iprop(xPts m d ∗ oPts d (out m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's part -/

section Sequencer

variable (d : Dev nD)

omit [FloatOps F] in
/-- The sequencer's own semaphores at zero: the body's two, and the rest. -/
theorem ownSems0_seq :
    (ownSems0 (seq d) : sProp 𝕄)
      = iprop(semVal (seq d, sem₀) 0 ∗ semVal (seq d, sem₁) 0
          ∗ bigSep (((ownCells (seq d)).erase (seq d, sem₀)).erase (seq d, sem₁)) fun g => semVal g 0) := by
  unfold SparseCore.Cfg.ownSems0
  rw [SparseCore.bigSep_erase' (i := ((seq d, sem₀) : GSem nD τ sig))
      (mem_ownCells.mpr ⟨rfl, show sem₀.isScoped .scScalar = true by decide⟩),
    SparseCore.bigSep_erase' (i := ((seq d, sem₁) : GSem nD τ sig))
      (Finset.mem_erase.mpr ⟨fun h => absurd (congrArg (fun g : GSem nD τ sig => g.2) h) (show ¬ sem₁ = sem₀ by decide),
        mem_ownCells.mpr ⟨rfl, show sem₁.isScoped .scScalar = true by decide⟩⟩)]

/-- The sequencer's processor, and the two scalar-memory buffers as buffers of its device. -/
abbrev seqProc : Proc τ := .scScalar ((⟨0, Nat.one_pos⟩ : Fin (grid0.bound 0)).castLE hcore0)
abbrev inRef : DevRef τ sig := seqProc.devRef cc0_scratch0
abbrev outRef : DevRef τ sig := seqProc.devRef cc0_scratch1

omit [FloatOps F] in
/-- The sequencer's own buffers at something each: the two scalar-memory buffers, and the rest. -/
theorem ownBufs_seq :
    (ownBufs (seq d) : sProp 𝕄)
      = iprop((∃ f, inW.view.loc (seq d) ↦{fullShare} f) ∗ (∃ f, outW.view.loc (seq d) ↦{fullShare} f)
          ∗ bigSep (((ownRefs (τ := τ) seqProc).erase inRef).erase outRef)
              fun b => iprop(∃ f, ((d, b) : Loc nD τ sig) ↦{fullShare} f)) := by
  unfold SparseCore.Cfg.ownBufs
  rw [SparseCore.bigSep_erase' (i := inRef) ((mem_ownRefs (p := seqProc) (b := inRef)).mpr rfl),
    SparseCore.bigSep_erase' (i := outRef)
      (Finset.mem_erase.mpr ⟨show outRef ≠ inRef by decide, (mem_ownRefs (p := seqProc) (b := outRef)).mpr rfl⟩)]

/-- The body in the form that the launch asks for: the sequencer's buffers and semaphores come from, and go back to,
what it owns while a kernel runs. -/
theorem body (hF : (K (F := F)).Facts) (O : CellTallies nD τ sig (HIx 1)) (W : Waits sig (HIx 1)) (hO : ∀ g, O g none = 0) :
    iprop(levAts (K (F := F)).L (K (F := F)).lev ∗ emp ∗ (xPts m d ∗ ∃ f, oPts d f)
        ∗ scopedBufs (seq d) ∗ scopedSems0 (seq d) ∗ owes (seq d) O W)
      ⊢ wp frame (wpE (defs₀ (F := F)) Variants.none (seq d) none) Set.univ
          (cc0__body (point ⟨0, Nat.one_pos⟩) xW (Memref.isWhole_whole _) oW (Memref.isWhole_whole _)
            inW (Memref.isWhole_whole _) outW (Memref.isWhole_whole _) cc0_scoped0 cc0_scoped1)
          fun _ => iprop((xPts m d ∗ oPts d (out m d)) ∗ scopedBufs (seq d) ∗ scopedSems0 (seq d)
            ∗ ∃ W', ⌜∀ p ∈ W', p ∈ W ∨ p.2 = none ∨ p.2 = some (0 : Fin 1)⌝ ∗ owes (seq d) O W') := by
  rw [(K (F := F)).scopedBufs_S hF d _, SparseCore.Cfg.scopedSems0_S (Val := Elt F) d _, ownSems0_seq, ownBufs_seq]
  iintro ⟨#Hlv, -, ⟨Hx, %o, Ho⟩, ⟨⟨⟨%f, Hin⟩, ⟨%g, Hout⟩, Hbufs⟩, Htiles⟩, ⟨⟨Hs₀, Hs₁, Hsems⟩, HtileSems⟩, HO⟩
  ihave Hmw := ((K (F := F)).mayWaits_none (thr := seq d) hO) $$ Hlv
  iapply (wp_wand_r Idealize.ShloMosaic.frame (wpE (defs₀ (F := F)) Variants.none (seq d) none) Set.univ)
  isplitl [Hx Ho Hin Hout Hs₀ Hs₁ HO]
  · iapply (seq_run d O W (m (xLoc d)) o f g)
    isplitr; · iexact Hmw
    isplitl [Hx]; · iexact Hx
    isplitl [Ho]; · iexact Ho
    isplitl [Hin]; · iexact Hin
    isplitl [Hout]; · iexact Hout
    isplitl [Hs₀]; · iexact Hs₀
    isplitl [Hs₁]; · iexact Hs₁
    iexact HO
  iintro %_ ⟨Hx, Ho, Hin, Hout, Hs₀, Hs₁, %W', HO⟩
  isplitl [Hx Ho]
  · isplitl [Hx]; · iexact Hx
    iexact Ho
  isplitl [Hin Hout Hbufs Htiles]
  · isplitr [Htiles]
    · isplitl [Hin]; · iexact Hin
      isplitl [Hout]; · iexact Hout
      iexact Hbufs
    iexact Htiles
  isplitl [Hs₀ Hs₁ Hsems HtileSems]
  · isplitr [HtileSems]
    · isplitl [Hs₀]; · iexact Hs₀
      isplitl [Hs₁]; · iexact Hs₁
      iexact Hsems
    iexact HtileSems
  iexists W'
  isplitr
  · ipureintro
    intro p _
    match p.2 with
    | none => exact .inr (.inl rfl)
    | some q => exact .inr (.inr (congrArg some (Subsingleton.elim q 0)))
  · iexact HO

end Sequencer

/-- The body table at a scalar subcore: the kernel's body at the core's point of the grid. -/
theorem defs₀_scalar (c : Fin τ.nSC) :
    defs₀ (F := F) (.scScalar c) 0 ()
      = SparseCore.onCore hcore0 (fun c => cc0__body (point c) xW (Memref.isWhole_whole _) oW (Memref.isWhole_whole _)
          inW (Memref.isWhole_whole _) outW (Memref.isWhole_whole _) cc0_scoped0 cc0_scoped1) ⟨⟩ c := rfl

/-- The launch's demand of the call: its one sequencer runs `body`. -/
theorem scalarObl : (K (F := F)).ScalarObl (D (F := F)) variants (P m) (Sum.inl none) 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_
    (Pipeline.wp_liftProg (D (F := F)) (Pipeline.defs_kernel pcfgs defs₀) Variants.none _ Set.univ none _ _)
  have hc : ((K (F := F)).core 0 c).val < grid0.bound 0 := c.isLt
  rw [defs₀_scalar]
  simp only [SparseCore.onCore, hc, ↓reduceDIte]
  match c with
  | ⟨0, _⟩ => exact body m d launchFacts O W hO

/-! ## The TensorCore's part -/

/-- The launch's element of the user algebra: the handshakes' rounds. -/
def u₀ : UU := (initOf (K (F := F)).hsCells (K (F := F)).hsToks, 1)

/-- That element gives the handshakes' rounds; the call needs nothing else of it. -/
theorem hu₀ : (ownU (u₀ (F := F)) : sProp 𝕄)
    ⊢ |={Set.univ}=> iprop(BI.own (EH (initOf (K (F := F)).hsCells (K (F := F)).hsToks))
        ∗ (bigSep Finset.univ fun _ : Dev nD => iprop(emp))
        ∗ bigSep Finset.univ fun thr : Thread nD τ => bigSep Finset.univ fun q : Fin 1 => (P m).x q thr) := by
  have he {I : Type} (s : Finset I) : (bigSep s fun _ => iprop(emp)) = (iprop(emp) : sProp 𝕄) := bigSep_emp_const s
  rw [show (bigSep Finset.univ fun thr : Thread nD τ => bigSep Finset.univ fun q : Fin 1 => (P (F := F) m).x q thr)
      = bigSep Finset.univ fun _ => iprop(emp) from bigSep_congr fun _ _ => bigSep_univ_of_subsingleton (0 : Fin 1),
    he, he]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

omit [FloatOps F] in
/-- The TensorCore's arrays are the argument and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the call takes for its one SparseCore. -/
theorem taken_for_call (d : Dev nD) :
    (bigSep Finset.univ fun c : Fin ((K (F := F)).nCore 0) => (P m).st 0 d c) = iprop(xPts m d ∗ ∃ f, oPts d f) :=
  bigSep_univ_of_subsingleton (0 : Fin 1)
/-- And what it hands back. -/
theorem back_from_call (d : Dev nD) :
    (bigSep Finset.univ fun c : Fin ((K (F := F)).nCore 0) => (P m).dn 0 d c) = iprop(xPts m d ∗ oPts d (out m d)) :=
  bigSep_univ_of_subsingleton (0 : Fin 1)

/-- What the program leaves: the argument as it was, the result at the gathered array. -/
abbrev left (d : Dev nD) : sProp 𝕄 := iprop(xPts m d ∗ oPts d (out m d))

/-- The TensorCore's program is the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) variants (SparseCore.T d) none) Set.univ (main d)
          fun _ => iprop((K (F := F)).tcSt EH d 1 ∗ left m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) variants (EH := EH) (P := P m) κ d 0) $$ [Hst Hx Ho Hb Hts]
  isplitr; · iexact Hctx
  isplitl [Hst]; · iexact Hst
  isplitl [Hx Ho]
  · rw [taken_for_call]
    isplitl [Hx]; · iexact Hx
    iexists _; iexact Ho
  iintro ⟨Hst, Hdn⟩
  ihave Hdn' := (Entails.of_eq (back_from_call m d)) $$ Hdn
  icases Hdn' with ⟨Hx, Ho⟩
  imodintro
  isplitl [Hst]; · iexact Hst
  isplitl [Hx Ho]
  · isplitl [Hx] <;> iassumption
  isplitl [Hb] <;> iassumption

/-- What the final memory says of device `d`: the result is the gathered array, the argument is unchanged. -/
def ends (d : Dev nD) (s : MemSt nD τ sig (Elt F)) : Prop :=
  s.mem (oLoc d) = out m d ∧ s.mem (xLoc d) = m (xLoc d)

/-- Owning both arrays whole determines them in the memory. -/
theorem hfin (d : Dev nD) (s' : Phys nD τ sig (Elt F)) : iprop(left m d ∗ SI s') ⊢ (⌜ends m d s'.mem⌝ : sProp 𝕄) := by
  iintro ⟨⟨Hx, Ho⟩, HSI⟩
  icombine HSI Hx gives %hx
  icombine HSI Ho gives %ho
  ipureintro
  exact ⟨Buf.eq_of_forall_mem_univ ho, Buf.eq_of_forall_mem_univ hx⟩

/-- The kernel runs, its result ends at the gathered array, its argument is unchanged, and every semaphore is at zero. -/
theorem run_main [∀ e, Nonempty (Elt F e)] :
    θ_run (Cert.KernelIdeal.defs (F := F)) (Cert.KernelIdeal.threads (F := F)) ⟨m, fun _ => 0, ρ⟩
      fun r => (∀ d : Dev nD, ends m d r.2) ∧ r.2.sem = fun _ => 0 :=
  SparseCore.Cfg.θ_run_sc_quiescent (K := K (F := F)) (D := D (F := F)) (𝒱 := variants) (EH := EH) (P := P m) (A := ∅)
    launchFacts (Sum.inl none)
    (fun q _ => match q with | 0 => scalarObl m)
    (fun q hq => match q with | 0 => nomatch hq)
    (fun q hq => match q with | 0 => nomatch hq)
    m ρ main (fun _ => iprop(emp)) (left m) (u₀ (F := F)) (sep_elim_left.trans (hu₀ m)) (hmain m ρ)
    (fun d s' => ends m d s'.mem) (hfin m) _ (fun _ h hz => ⟨h, hz⟩)

end Cert.Proof

end
-- ==== Proof.RefValue.lean ====
/-
  What the reference computes, at any float values `F`: its run ends with the result at the gathered array (`taken`).
  The index table lies in `[0, 8)`, so the reference's mask of places in range holds everywhere and no element is
  replaced by its filler.
-/
module

public import proofs.«01_k».proof.Proof.Take
public import proofs.«01_k».proof.Proof.Gen.ReferenceIdeal.Run
public import Idealize.ShloMosaic.Lib.ValueIdxCore

@[expose] public section

noncomputable section

namespace Cert.Proof.RefValue

open Cert.ReferenceIdeal Cert.ReferenceIdeal.Gen Idealize.ShloMosaic Idealize.ShloMosaic.TcCoe Idealize.SL.Sem Idealize.ShloMosaic.StableHlo

variable {F : FTy → Type} [FloatOps F]

/-- The index table, as the reference spells it. -/
abbrev table : IVec S4x3 32 := fun i => lit0 (S4x3.rowMajor i)

/-- The reference's indices: negative ones counted from the end, with a trailing axis of one. -/
abbrev indices : IVec S4x3x1 32 :=
  shapeCast _ (select (cmpi .slt table (broadcastInDim S4x3 ![] bcast_S_S4x3 (constantI S_ 32 0#32)))
    (addi table (broadcastInDim S4x3 ![] bcast_S_S4x3 (constantI S_ 32 8#32))) table) shapeCasts_S4x3_S4x3x1

/-- The reference's mask of the places whose index is in range. -/
abbrev inRange : IVec S4x3 1 :=
  Host.reduce IntOp.andi (andi (cmpi .sge indices (broadcastInDim S4x3x1 ![] bcast_S_S4x3x1 (constantI S_ 32 0#32)))
    (cmpi .sle indices (broadcastInDim S4x3x1 ![0, 1, 2] bcast_S1x1x1_S4x3x1_0_1_2
      (broadcastInDim S1x1x1 ![2] bcast_S1_S1x1x1_2 (constantI S1 32 7#32))))) (constantI S_ 1 1#1) reducesTo_S4x3x1_S4x3_d2 h_S_

/-- The mask holds everywhere. -/
theorem inRange_eq : ∀ i : S4x3.Idx, inRange i = 1#1 := by decide +kernel

/-- The place of the input that the gather reads for `i` is the table's. -/
theorem gather_eq (x : FVec F S4x8 .f32) : Host.gather gather_S4x8_S4x3x1_S4x3_n_1_0_0_1_2_11 x indices = taken x := by
  funext i
  refine congrArg x ?_
  revert i
  decide +kernel

/-- The reference runs and ends with the gathered array in its result and its argument unchanged. -/
theorem run_taken (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = taken (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (Value.run m ρ)
  funext i
  rw [← gather_eq (F := F)]
  exact congrArg (fun b => Scalar.select b _ _) (inRange_eq i)

end Cert.Proof.RefValue

end
-- ==== Proof.lean ====
/-
  The certificate's claims, each from a run: the kernel's (`run_main`) and the reference's (`RefValue.run_taken`), both
  proven at any float values. The kernel and its idealization have one text, as have the two references, so each run
  serves at both instances.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Launch
public import proofs.«01_k».proof.Proof.RefValue
public import Idealize.ShloMosaic.Lib.Quiescent

@[expose] public section

noncomputable section

namespace Cert.Proof

open Idealize.ShloMosaic Idealize.SL.Sem

/-- The kernel runs, leaves its argument unchanged and every semaphore at zero. -/
theorem frame_kernel : Cert.quiescent_Kernel := fun m ρ _ =>
  (θ_run Cert.KernelIdeal.defs _ _).mono (fun _ h => ⟨fun c => (h.1 c).2, h.2⟩) (run_main (F := Bits) m ρ)

/-- So does its idealization. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The idealized reference runs and leaves its argument unchanged; it has no semaphores. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (RefValue.run_taken (F := Ideal) m ρ)

/-- So does the reference. -/
theorem frame_reference : Cert.quiescent_Reference := fun m ρ _ =>
  (θ_run Cert.ReferenceIdeal.defs _ _).mono (fun r h => ⟨fun c => (h c).2, sem_eq_zero_of_no_sems (by decide) r.2⟩)
    (RefValue.run_taken (F := Bits) m ρ)

/-- At exact arithmetic, the kernel and the reference both end with the gathered array of the one argument. -/
theorem algebraic : Cert.algebraic_KernelIdeal_ReferenceIdeal := fun m ρ m' ρ' _ same =>
  ⟨fun c => out m c, (θ_run Cert.KernelIdeal.defs _ _).mono (fun _ h c => h.1 c) (run_main (F := Ideal) m ρ),
    (θ_run Cert.ReferenceIdeal.defs _ _).mono (fun _ h c => ⟨(h c).1.trans (congrArg taken (same c)), (h c).2⟩)
      (RefValue.run_taken (F := Ideal) m' ρ')⟩

/-- On the bits, too. -/
theorem bitexact : Cert.bitexact_Kernel_Reference := fun m ρ m' ρ' _ same =>
  ⟨fun c => out m c, (θ_run Cert.KernelIdeal.defs _ _).mono (fun _ h c => h.1 c) (run_main (F := Bits) m ρ),
    (θ_run Cert.ReferenceIdeal.defs _ _).mono (fun _ h c => ⟨(h c).1.trans (congrArg taken (same c)), (h c).2⟩)
      (RefValue.run_taken (F := Bits) m' ρ')⟩

/-- Everything claimed. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
